-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S320000x128 : Shape := ⟨2, ![320000, 128]⟩
abbrev S320000x6 : Shape := ⟨2, ![320000, 6]⟩
abbrev S320000 : Shape := ⟨1, ![320000]⟩
abbrev S6x128 : Shape := ⟨2, ![6, 128]⟩
abbrev S128x256 : Shape := ⟨2, ![128, 256]⟩
abbrev S256x256 : Shape := ⟨2, ![256, 256]⟩
abbrev S256 : Shape := ⟨1, ![256]⟩
abbrev S256x12 : Shape := ⟨2, ![256, 12]⟩
abbrev S_ : Shape := ⟨0, ![]⟩

class Facts : Prop where
  bcast_S_S320000 : S_.BroadcastsInDim S320000 (![] : Fin 0 → Fin S320000.rank)
  bcast_S_S320000x128 : S_.BroadcastsInDim S320000x128 (![] : Fin 0 → Fin S320000x128.rank)
  bcast_S_S320000x6 : S_.BroadcastsInDim S320000x6 (![] : Fin 0 → Fin S320000x6.rank)
  bcast_S_S6x128 : S_.BroadcastsInDim S6x128 (![] : Fin 0 → Fin S6x128.rank)
  bcast_S_S128x256 : S_.BroadcastsInDim S128x256 (![] : Fin 0 → Fin S128x256.rank)
  bcast_S_S256x256 : S_.BroadcastsInDim S256x256 (![] : Fin 0 → Fin S256x256.rank)
  bcast_S_S256x12 : S_.BroadcastsInDim S256x12 (![] : Fin 0 → Fin S256x12.rank)

variable [Facts]

def fn_part1 {F : FTy → Type} [FloatOps F] (main_arg7 : FVec F S256x256 .f32) (main_arg9 : FVec F S256x256 .f32) (main_arg11 : FVec F S256x12 .f32) (main_v4 : IVec S320000 1) (main_v7 : IVec S320000x128 1) (main_v10 : IVec S320000x6 1) (main_v13 : IVec S6x128 1) (main_v16 : IVec S128x256 1) (main_v17 : FVec F S256x256 .f32) : IVec S320000 1 × IVec S320000x128 1 × IVec S320000x6 1 × IVec S6x128 1 × IVec S128x256 1 × IVec S256x256 1 × IVec S256x256 1 × IVec S256x256 1 × IVec S256x12 1 :=
  let main_cst_4 : FVec F S_ .f32 := constant S_ .f32 0x7F800000#32
  let main_v18 : FVec F S256x256 .f32 := broadcastInDim S256x256 ![] bcast_S_S256x256 main_cst_4
  let main_v19 : IVec S256x256 1 := cmpf .olt main_v17 main_v18
  let main_v20 : FVec F S256x256 .f32 := Host.absf main_arg7
  let main_cst_5 : FVec F S_ .f32 := constant S_ .f32 0x7F800000#32
  let main_v21 : FVec F S256x256 .f32 := broadcastInDim S256x256 ![] bcast_S_S256x256 main_cst_5
  let main_v22 : IVec S256x256 1 := cmpf .olt main_v20 main_v21
  let main_v23 : FVec F S256x256 .f32 := Host.absf main_arg9
  let main_cst_6 : FVec F S_ .f32 := constant S_ .f32 0x7F800000#32
  let main_v24 : FVec F S256x256 .f32 := broadcastInDim S256x256 ![] bcast_S_S256x256 main_cst_6
  let main_v25 : IVec S256x256 1 := cmpf .olt main_v23 main_v24
  let main_v26 : FVec F S256x12 .f32 := Host.absf main_arg11
  let main_cst_7 : FVec F S_ .f32 := constant S_ .f32 0x7F800000#32
  let main_v27 : FVec F S256x12 .f32 := broadcastInDim S256x12 ![] bcast_S_S256x12 main_cst_7
  let main_v28 : IVec S256x12 1 := cmpf .olt main_v26 main_v27
  (main_v4, main_v7, main_v10, main_v13, main_v16, main_v19, main_v22, main_v25, main_v28)

def fn {F : FTy → Type} [FloatOps F] (main_arg0 : FVec F S320000x128 .f32) (main_arg1 : FVec F S320000x6 .f32) (main_arg2 : IVec S320000 32) (main_arg3 : FVec F S6x128 .f32) (main_arg4 : FVec F S128x256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x12 .f32) : IVec S320000 1 × IVec S320000x128 1 × IVec S320000x6 1 × IVec S6x128 1 × IVec S128x256 1 × IVec S256x256 1 × IVec S256x256 1 × IVec S256x256 1 × IVec S256x12 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 32 := constantI S_ 32 10000#32
  let main_v2 : IVec S320000 32 := broadcastInDim S320000 ![] bcast_S_S320000 main_c_0
  let main_v3 : IVec S320000 1 := cmpi .slt main_arg2 main_v2
  let main_v4 : IVec S320000 1 := andi main_v1 main_v3
  let main_v5 : FVec F S320000x128 .f32 := Host.absf main_arg0
  let main_cst : FVec F S_ .f32 := constant S_ .f32 0x7F800000#32
  let main_v6 : FVec F S320000x128 .f32 := broadcastInDim S320000x128 ![] bcast_S_S320000x128 main_cst
  let main_v7 : IVec S320000x128 1 := cmpf .olt main_v5 main_v6
  let main_v8 : FVec F S320000x6 .f32 := Host.absf main_arg1
  let main_cst_1 : FVec F S_ .f32 := constant S_ .f32 0x7F800000#32
  let main_v9 : FVec F S320000x6 .f32 := broadcastInDim S320000x6 ![] bcast_S_S320000x6 main_cst_1
  let main_v10 : IVec S320000x6 1 := cmpf .olt main_v8 main_v9
  let main_v11 : FVec F S6x128 .f32 := Host.absf main_arg3
  let main_cst_2 : FVec F S_ .f32 := constant S_ .f32 0x7F800000#32
  let main_v12 : FVec F S6x128 .f32 := broadcastInDim S6x128 ![] bcast_S_S6x128 main_cst_2
  let main_v13 : IVec S6x128 1 := cmpf .olt main_v11 main_v12
  let main_v14 : FVec F S128x256 .f32 := Host.absf main_arg4
  let main_cst_3 : FVec F S_ .f32 := constant S_ .f32 0x7F800000#32
  let main_v15 : FVec F S128x256 .f32 := broadcastInDim S128x256 ![] bcast_S_S128x256 main_cst_3
  let main_v16 : IVec S128x256 1 := cmpf .olt main_v14 main_v15
  let main_v17 : FVec F S256x256 .f32 := Host.absf main_arg5
  fn_part1 (F := F) main_arg7 main_arg9 main_arg11 main_v4 main_v7 main_v10 main_v13 main_v16 main_v17
-- ==== Kernel.lean ====
abbrev S320000x128 : Shape := ⟨2, ![320000, 128]⟩
abbrev S320000x6 : Shape := ⟨2, ![320000, 6]⟩
abbrev S320000 : Shape := ⟨1, ![320000]⟩
abbrev S6x128 : Shape := ⟨2, ![6, 128]⟩
abbrev S128x256 : Shape := ⟨2, ![128, 256]⟩
abbrev S256x256 : Shape := ⟨2, ![256, 256]⟩
abbrev S256 : Shape := ⟨1, ![256]⟩
abbrev S256x12 : Shape := ⟨2, ![256, 12]⟩
abbrev S_ : Shape := ⟨0, ![]⟩
abbrev S1x256 : Shape := ⟨2, ![1, 256]⟩
abbrev S6x320000 : Shape := ⟨2, ![6, 320000]⟩
abbrev S1x12 : Shape := ⟨2, ![1, 12]⟩
abbrev S6x32000 : Shape := ⟨2, ![6, 32000]⟩
abbrev S32000x128 : Shape := ⟨2, ![32000, 128]⟩
abbrev S128 : Shape := ⟨1, ![128]⟩
abbrev S1x128 : Shape := ⟨2, ![1, 128]⟩

abbrev nBuf : Space → Nat
  | .hbm => 26
  | .vmem => 15
  | .smem => 0
  | _ => 0

abbrev bufTy : (tb : Table) → Fin (tcTables nBuf tb) → BufTy
  | .hbm, ⟨0, _⟩ => ⟨S320000x128, .f32⟩
  | .hbm, ⟨1, _⟩ => ⟨S320000x6, .f32⟩
  | .hbm, ⟨2, _⟩ => ⟨S320000, .i32⟩
  | .hbm, ⟨3, _⟩ => ⟨S6x128, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x12, .f32⟩
  | .hbm, ⟨12, _⟩ => ⟨S_, .f32⟩
  | .hbm, ⟨13, _⟩ => ⟨S256, .f32⟩
  | .hbm, ⟨14, _⟩ => ⟨S256, .f32⟩
  | .hbm, ⟨15, _⟩ => ⟨S1x256, .f32⟩
  | .hbm, ⟨16, _⟩ => ⟨S_, .f32⟩
  | .hbm, ⟨17, _⟩ => ⟨S256, .f32⟩
  | .hbm, ⟨18, _⟩ => ⟨S256, .f32⟩
  | .hbm, ⟨19, _⟩ => ⟨S1x256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S1x256, .f32⟩
  | .hbm, ⟨24, _⟩ => ⟨S6x320000, .f32⟩
  | .hbm, ⟨25, _⟩ => ⟨S1x12, .f32⟩
  | .local _ .vmem, ⟨0, _⟩ => ⟨S6x32000, .f32⟩
  | .local _ .vmem, ⟨1, _⟩ => ⟨S6x32000, .f32⟩
  | .local _ .vmem, ⟨2, _⟩ => ⟨S32000x128, .f32⟩
  | .local _ .vmem, ⟨3, _⟩ => ⟨S32000x128, .f32⟩
  | .local _ .vmem, ⟨4, _⟩ => ⟨S6x128, .f32⟩
  | .local _ .vmem, ⟨5, _⟩ => ⟨S128x256, .f32⟩
  | .local _ .vmem, ⟨6, _⟩ => ⟨S256x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x12, .f32⟩
  | .local _ .vmem, ⟨13, _⟩ => ⟨S1x12, .f32⟩
  | .local _ .vmem, ⟨14, _⟩ => ⟨S6x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13

abbrev nD : Nat := 1
abbrev τ : Topo := Topo.v7x

variable {F : FTy → Type} [FloatOps F]

abbrev grid0 : Pipeline.Grid := ⟨1, ![10], ![false]⟩

def k0_cond3 (i : grid0.Coords) : BitVec 1 :=
  let arg0 : BitVec 32 := BitVec.ofNat 32 (i 0).val
  let c9_i32 : BitVec 32 := 9#32
  let v10 : BitVec 1 := Scalar.cmpi .eq arg0 c9_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S6x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x12 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S320000x128 : Shape := ⟨2, ![320000, 128]⟩
abbrev S320000x6 : Shape := ⟨2, ![320000, 6]⟩
abbrev S320000 : Shape := ⟨1, ![320000]⟩
abbrev S6x128 : Shape := ⟨2, ![6, 128]⟩
abbrev S128x256 : Shape := ⟨2, ![128, 256]⟩
abbrev S256x256 : Shape := ⟨2, ![256, 256]⟩
abbrev S256 : Shape := ⟨1, ![256]⟩
abbrev S256x12 : Shape := ⟨2, ![256, 12]⟩
abbrev S_ : Shape := ⟨0, ![]⟩
abbrev S10000x128 : Shape := ⟨2, ![10000, 128]⟩
abbrev S320000x1 : Shape := ⟨2, ![320000, 1]⟩
abbrev S10000x256 : Shape := ⟨2, ![10000, 256]⟩
abbrev S1x256 : Shape := ⟨2, ![1, 256]⟩
abbrev S10000x12 : Shape := ⟨2, ![10000, 12]⟩
abbrev S12 : Shape := ⟨1, ![12]⟩
abbrev S1x12 : Shape := ⟨2, ![1, 12]⟩

abbrev nBuf : Space → Nat
  | .hbm => 35
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x6, .f32⟩
  | .hbm, ⟨2, _⟩ => ⟨S320000, .i32⟩
  | .hbm, ⟨3, _⟩ => ⟨S6x128, .f32⟩
  | .hbm, ⟨4, _⟩ => ⟨S128x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x12, .f32⟩
  | .hbm, ⟨12, _⟩ => ⟨S320000x128, .f32⟩
  | .hbm, ⟨13, _⟩ => ⟨S320000x128, .f32⟩
  | .hbm, ⟨14, _⟩ => ⟨S_, .f32⟩
  | .hbm, ⟨15, _⟩ => ⟨S10000x128, .f32⟩
  | .hbm, ⟨16, _⟩ => ⟨S320000x1, .i32⟩
  | .hbm, ⟨17, _⟩ => ⟨S10000x128, .f32⟩
  | .hbm, ⟨18, _⟩ => ⟨S10000x256, .f32⟩
  | .hbm, ⟨19, _⟩ => ⟨S10000x256, .f32⟩
  | .hbm, ⟨20, _⟩ => ⟨S1x256, .f32⟩
  | .hbm, ⟨21, _⟩ => ⟨S10000x256, .f32⟩
  | .hbm, ⟨22, _⟩ => ⟨S10000x256, .f32⟩
  | .hbm, ⟨23, _⟩ => ⟨S10000x256, .f32⟩
  | .hbm, ⟨24, _⟩ => ⟨S1x256, .f32⟩
  | .hbm, ⟨25, _⟩ => ⟨S10000x256, .f32⟩
  | .hbm, ⟨26, _⟩ => ⟨S10000x256, .f32⟩
  | .hbm, ⟨27, _⟩ => ⟨S10000x256, .f32⟩
  | .hbm, ⟨28, _⟩ => ⟨S1x256, .f32⟩
  | .hbm, ⟨29, _⟩ => ⟨S10000x256, .f32⟩
  | .hbm, ⟨30, _⟩ => ⟨S10000x256, .f32⟩
  | .hbm, ⟨31, _⟩ => ⟨S10000x12, .f32⟩
  | .hbm, ⟨32, _⟩ => ⟨S_, .f32⟩
  | .hbm, ⟨33, _⟩ => ⟨S12, .f32⟩
  | .hbm, ⟨34, _⟩ => ⟨S1x12, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Steps.lean ====
/- What one grid point of the kernel leaves behind, as a value of the blocks it reads: in the carried accumulator at the first,
   middle and last points, and in the output block at the last point. -/
module

public import proofs.«01_k».proof.Proof.Gen.KernelIdeal.Value
public import Idealize.ShloMosaic.Lib.Tactic

@[expose] public section

noncomputable section

namespace Cert.KernelIdeal.Steps

open Cert.KernelIdeal Cert.KernelIdeal.Gen Idealize.ShloMosaic Idealize.ShloMosaic.TcCoe Idealize.SL.Sem

variable {F : FTy → Type} [FloatOps F]

/-- The offsets of a whole two-axis block. -/
theorem hz : (![0, 0] : Fin 2 → Nat) = fun _ => 0 := funext fun a => by fin_cases a <;> rfl

/-- The first point starts the accumulator: it leaves the product of the first two blocks. -/
theorem scratch_first (c : Dev nD) (i : grid0.Coords) (a1 : Memref sig .tc .vmem S6x32000 .f32) (h1 : a1.IsWhole) (a2 : Memref sig .tc .vmem S32000x128 .f32) (h2 : a2.IsWhole) (a3 : Memref sig .tc .vmem S6x128 .f32) (h3 : a3.IsWhole) (a4 : Memref sig .tc .vmem S128x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S256x12 .f32) (h11 : a11.IsWhole) (a12 : Memref sig .tc .vmem S1x12 .f32) (h12 : a12.IsWhole) (a13 : Memref sig .tc .vmem S6x128 .f32) (h13 : a13.IsWhole)
    (hc0 : cond0_0 i) (hc1 : ¬cond0_1 i) (hc2 : ¬cond0_2 i) (x0 : Vec F S6x32000 .f32) (x1 : Vec F S32000x128 .f32) (x2 : Vec F S6x128 .f32) (x3 : Vec F S128x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x12 .f32) :
    sout0_A_0 c i a1 h1 a2 h2 a3 h3 a4 h4 a5 h5 a6 h6 a7 h7 a8 h8 a9 h9 a10 h10 a11 h11 a12 h12 a13 h13 hc0 hc1 hc2 x0 x1 x2 x3 x4 x5 x6 x7 x8 x9 x10 = k0_pay1 x0 x1 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc0 hc1 hc2 x0 x1 x2 x3 x4 x5 x6 x7 x8 x9 x10)]
  unfold kernelRun0_A
  dsimp only
  sl_unfold_words
  rw [View.canon_unit_zero hz]
  unfold k0_pay2
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S6x32000) hz, View.ld_unit_zero (S := S32000x128) hz, View.ld_unit_zero (S := S6x128) hz,
    View.ld_unit_zero (S := S128x256) hz, View.ld_unit_zero (S := S256x256) hz, View.ld_unit_zero (S := S1x256) hz,
    View.ld_unit_zero (S := S256x12) hz, View.readCov_unit_zero (S := S6x128) _ hz, shapeCast_self]

/-- A middle point adds the product of its two blocks to the accumulator. -/
theorem scratch_middle (c : Dev nD) (i : grid0.Coords) (a1 : Memref sig .tc .vmem S6x32000 .f32) (h1 : a1.IsWhole) (a2 : Memref sig .tc .vmem S32000x128 .f32) (h2 : a2.IsWhole) (a3 : Memref sig .tc .vmem S6x128 .f32) (h3 : a3.IsWhole) (a4 : Memref sig .tc .vmem S128x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S256x12 .f32) (h11 : a11.IsWhole) (a12 : Memref sig .tc .vmem S1x12 .f32) (h12 : a12.IsWhole) (a13 : Memref sig .tc .vmem S6x128 .f32) (h13 : a13.IsWhole)
    (hc0 : ¬cond0_0 i) (hc1 : cond0_1 i) (hc2 : ¬cond0_2 i) (x0 : Vec F S6x32000 .f32) (x1 : Vec F S32000x128 .f32) (x2 : Vec F S6x128 .f32) (x3 : Vec F S128x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x12 .f32) (xs : Vec F S6x128 .f32) :
    sout0_B_0 c i a1 h1 a2 h2 a3 h3 a4 h4 a5 h5 a6 h6 a7 h7 a8 h8 a9 h9 a10 h10 a11 h11 a12 h12 a13 h13 hc0 hc1 hc2 x0 x1 x2 x3 x4 x5 x6 x7 x8 x9 x10 xs = addf xs (k0_pay1 x0 x1) := by
  unfold sout0_B_0
  rw [View.read_writes_eq_canon _ _ _ (scover0_B_0 c i a1 h1 a2 h2 a3 h3 a4 h4 a5 h5 a6 h6 a7 h7 a8 h8 a9 h9 a10 h10 a11 h11 a12 h12 a13 h13 hc0 hc1 hc2 x0 x1 x2 x3 x4 x5 x6 x7 x8 x9 x10 xs)]
  unfold kernelRun0_B
  dsimp only
  sl_unfold_words
  rw [View.canon_unit_zero hz]
  unfold k0_pay3
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S6x32000) hz, View.ld_unit_zero (S := S32000x128) hz, View.ld_unit_zero (S := S6x128) hz,
    View.ld_unit_zero (S := S128x256) hz, View.ld_unit_zero (S := S256x256) hz, View.ld_unit_zero (S := S1x256) hz,
    View.ld_unit_zero (S := S256x12) hz, View.readCov_unit_zero (S := S6x128) _ hz, shapeCast_self]

/-- The last point adds its product to the accumulator, then pushes the finished accumulator through the layers. -/
theorem output_last (c : Dev nD) (i : grid0.Coords) (a1 : Memref sig .tc .vmem S6x32000 .f32) (h1 : a1.IsWhole) (a2 : Memref sig .tc .vmem S32000x128 .f32) (h2 : a2.IsWhole) (a3 : Memref sig .tc .vmem S6x128 .f32) (h3 : a3.IsWhole) (a4 : Memref sig .tc .vmem S128x256 .f32) (h4 : a4.IsWhole) (a5 : Memref sig .tc .vmem S256x256 .f32) (h5 : a5.IsWhole) (a6 : Memref sig .tc .vmem S1x256 .f32) (h6 : a6.IsWhole) (a7 : Memref sig .tc .vmem S256x256 .f32) (h7 : a7.IsWhole) (a8 : Memref sig .tc .vmem S1x256 .f32) (h8 : a8.IsWhole) (a9 : Memref sig .tc .vmem S256x256 .f32) (h9 : a9.IsWhole) (a10 : Memref sig .tc .vmem S1x256 .f32) (h10 : a10.IsWhole) (a11 : Memref sig .tc .vmem S256x12 .f32) (h11 : a11.IsWhole) (a12 : Memref sig .tc .vmem S1x12 .f32) (h12 : a12.IsWhole) (a13 : Memref sig .tc .vmem S6x128 .f32) (h13 : a13.IsWhole)
    (hc0 : ¬cond0_0 i) (hc1 : cond0_1 i) (hc2 : cond0_2 i) (x0 : Vec F S6x32000 .f32) (x1 : Vec F S32000x128 .f32) (x2 : Vec F S6x128 .f32) (x3 : Vec F S128x256 .f32) (x4 : Vec F S256x256 .f32) (x5 : Vec F S1x256 .f32) (x6 : Vec F S256x256 .f32) (x7 : Vec F S1x256 .f32) (x8 : Vec F S256x256 .f32) (x9 : Vec F S1x256 .f32) (x10 : Vec F S256x12 .f32) (xs : Vec F S6x128 .f32) :
    out0_C_11 c i a1 h1 a2 h2 a3 h3 a4 h4 a5 h5 a6 h6 a7 h7 a8 h8 a9 h9 a10 h10 a11 h11 a12 h12 a13 h13 hc0 hc1 hc2 x0 x1 x2 x3 x4 x5 x6 x7 x8 x9 x10 xs = k0_pay4 x2 (addf xs (k0_pay1 x0 x1)) x3 x4 x5 x6 x7 x8 x9 x10 := by
  unfold out0_C_11
  rw [View.read_writes_eq_canon _ _ _ (cover0_C_11 c i a1 h1 a2 h2 a3 h3 a4 h4 a5 h5 a6 h6 a7 h7 a8 h8 a9 h9 a10 h10 a11 h11 a12 h12 a13 h13 hc0 hc1 hc2 x0 x1 x2 x3 x4 x5 x6 x7 x8 x9 x10 xs)]
  unfold kernelRun0_C
  dsimp only
  sl_unfold_words
  rw [View.canon_unit_zero hz]
  unfold k0_pay3
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S6x32000) hz, View.ld_unit_zero (S := S32000x128) hz, View.ld_unit_zero (S := S6x128) hz,
    View.ld_unit_zero (S := S128x256) hz, View.ld_unit_zero (S := S256x256) hz, View.ld_unit_zero (S := S1x256) hz,
    View.ld_unit_zero (S := S256x12) hz, View.readCov_unit_zero (S := S6x128) _ hz, shapeCast_self]

end Cert.KernelIdeal.Steps

end
-- ==== Proof.Sums.lean ====
/- The mathematics of the certificate, over the extended reals and with no program in sight.

   The reference computes one row per node and adds the rows up at the very end; the kernel adds the edges up first and
   pushes the one total row through the same layers, with every bias multiplied by the number of nodes. The two meet in the
   relation `Sums t u`: the value `u` the kernel holds is the sum of the per-node values `t n` the reference holds, in a
   form strong enough to survive a product by a finite weight. Finite values alone would not do: a bias may be infinite,
   and an infinite bias makes EVERY node's value the same infinity, which is the second half of the relation. -/
module

public import Mathlib.Data.EReal.Operations
public import Mathlib.Algebra.BigOperators.Fin
public import Mathlib.Algebra.BigOperators.Ring.Finset
public import Mathlib.Algebra.Order.BigOperators.Group.Finset

@[expose] public section

noncomputable section

namespace Cert.Sums

open Finset

/-- The value is a real number. -/
def IsReal (x : EReal) : Prop := ∃ r : ℝ, x = (r : EReal)

/-- `u` is the sum of the values `t n`, either because all of them are real and `u` is their real sum, or because all of
    them and `u` are one and the same infinity. -/
def Sums {N : Type} [Fintype N] (t : N → EReal) (u : EReal) : Prop :=
  (∃ f : N → ℝ, (∀ n, t n = (f n : EReal)) ∧ u = ((∑ n, f n : ℝ) : EReal)) ∨
  (∃ v : EReal, (v = ⊤ ∨ v = ⊥) ∧ (∀ n, t n = v) ∧ u = v)

variable {N : Type} [Fintype N]

/-- A finite sum of real numbers, taken in the extended reals, is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- An infinity times a positive count is that infinity. -/
theorem infinity_mul_count {v : EReal} (hv : v = ⊤ ∨ v = ⊥) {k : ℕ} (hk : 0 < k) : v * ((k : ℝ) : EReal) = v := by
  have hk' : (0 : EReal) < ((k : ℝ) : EReal) := by exact_mod_cast hk
  rcases hv with rfl | rfl
  · exact EReal.top_mul_of_pos hk'
  · exact EReal.bot_mul_of_pos hk'

/-- The relation does give the sum. -/
theorem Sums.sum_eq [Nonempty N] {t : N → EReal} {u : EReal} (h : Sums t u) : ∑ n, t n = u := by
  rcases h with ⟨f, hf, rfl⟩ | ⟨v, hv, ht, rfl⟩
  · rw [coe_sum]
    exact sum_congr rfl fun n _ => hf n
  · rw [sum_congr rfl (fun n _ => ht n), sum_const, card_univ, EReal.nsmul_eq_mul]
    exact (EReal.mul_comm _ _).trans (infinity_mul_count hv Fintype.card_pos)

/-- Zero everywhere sums to zero. -/
theorem Sums.zero : Sums (fun _ : N => (0 : EReal)) 0 :=
  Or.inl ⟨fun _ => 0, fun _ => by simp, by simp⟩

/-- The relation survives a product by a real weight. -/
theorem Sums.mul_real {t : N → EReal} {u w : EReal} (h : Sums t u) (hw : IsReal w) : Sums (fun n => t n * w) (u * w) := by
  obtain ⟨r, rfl⟩ := hw
  rcases h with ⟨f, hf, rfl⟩ | ⟨v, hv, ht, rfl⟩
  · refine Or.inl ⟨fun n => f n * r, fun n => by simp only [hf n, EReal.coe_mul], ?_⟩
    rw [← EReal.coe_mul, sum_mul]
  · rcases lt_trichotomy r 0 with hr | rfl | hr
    · have hr' : ((r : ℝ) : EReal) < 0 := by exact_mod_cast hr
      refine Or.inr ⟨u * r, ?_, fun n => by simp only [ht n], rfl⟩
      rcases hv with rfl | rfl
      · exact Or.inr (EReal.top_mul_of_neg hr')
      · exact Or.inl (EReal.bot_mul_of_neg hr')
    · refine Or.inl ⟨fun _ => 0, fun n => by simp, by simp⟩
    · have hr' : (0 : EReal) < ((r : ℝ) : EReal) := by exact_mod_cast hr
      refine Or.inr ⟨u * r, ?_, fun n => by simp only [ht n], rfl⟩
      rcases hv with rfl | rfl
      · exact Or.inl (EReal.top_mul_of_pos hr')
      · exact Or.inr (EReal.bot_mul_of_pos hr')

/-- The relation survives addition. -/
theorem Sums.add {t t' : N → EReal} {u u' : EReal} (h : Sums t u) (h' : Sums t' u') :
    Sums (fun n => t n + t' n) (u + u') := by
  rcases h with ⟨f, hf, rfl⟩ | ⟨v, hv, ht, rfl⟩ <;> rcases h' with ⟨f', hf', rfl⟩ | ⟨v', hv', ht', rfl⟩
  · refine Or.inl ⟨fun n => f n + f' n, fun n => by simp only [hf n, hf' n, EReal.coe_add], ?_⟩
    rw [← EReal.coe_add, sum_add_distrib]
  · refine Or.inr ⟨u', hv', fun n => ?_, ?_⟩ <;> rcases hv' with rfl | rfl <;> simp [*]
  · refine Or.inr ⟨u, hv, fun n => ?_, ?_⟩ <;> rcases hv with rfl | rfl <;> simp [*]
  · refine Or.inr ⟨u + u', ?_, fun n => by simp only [ht n, ht' n], rfl⟩
    rcases hv with rfl | rfl <;> rcases hv' with rfl | rfl <;> simp

/-- The same value at every node, infinite or not, sums to that value times the number of nodes. -/
theorem Sums.const [Nonempty N] (b : EReal) : Sums (fun _ : N => b) (b * ((Fintype.card N : ℝ) : EReal)) := by
  induction b with
  | bot => exact Or.inr ⟨⊥, Or.inr rfl, fun _ => rfl, infinity_mul_count (Or.inr rfl) Fintype.card_pos⟩
  | top => exact Or.inr ⟨⊤, Or.inl rfl, fun _ => rfl, infinity_mul_count (Or.inl rfl) Fintype.card_pos⟩
  | coe b =>
    refine Or.inl ⟨fun _ => b, fun _ => rfl, ?_⟩
    rw [sum_const, card_univ, nsmul_eq_mul, mul_comm, EReal.coe_mul]

/-- One output of a linear layer: the row `x` times column `j` of the weights. -/
def dense {K J : Type} [Fintype K] (x : K → EReal) (W : K → J → EReal) (j : J) : EReal := ∑ k, x k * W k j

/-- A linear layer of real weights keeps the relation, column by column. -/
theorem Sums.dense {K J : Type} [Fintype K] {t : N → K → EReal} {u : K → EReal} {W : K → J → EReal}
    (h : ∀ k, Sums (fun n => t n k) (u k)) (hW : ∀ k j, IsReal (W k j)) (j : J) :
    Sums (fun n => dense (t n) W j) (dense u W j) := by
  classical
  unfold Cert.Sums.dense
  generalize (univ : Finset K) = s
  induction s using Finset.induction_on with
  | empty => simpa using Sums.zero
  | insert a s ha ih =>
    simp only [sum_insert ha]
    exact ((h a).mul_real (hW a j)).add ih

/-- A linear layer followed by a bias keeps the relation, when the summed row gets the bias once per node. -/
theorem Sums.dense_bias [Nonempty N] {K J : Type} [Fintype K] {t : N → K → EReal} {u : K → EReal} {W : K → J → EReal}
    (h : ∀ k, Sums (fun n => t n k) (u k)) (hW : ∀ k j, IsReal (W k j)) (b : J → EReal) (j : J) :
    Sums (fun n => Cert.Sums.dense (t n) W j + b j) (Cert.Sums.dense u W j + b j * ((Fintype.card N : ℝ) : EReal)) :=
  (Sums.dense h hW j).add (Sums.const (b j))

/-- The layers after the aggregation: an up-projection, three dense layers with biases, and the output projection. -/
def layers {D H C : Type} [Fintype D] [Fintype H] (x : D → EReal) (Wup : D → H → EReal) (W0 : H → H → EReal) (b0 : H → EReal)
    (W1 : H → H → EReal) (b1 : H → EReal) (W2 : H → H → EReal) (b2 : H → EReal) (Wf : H → C → EReal) (c : C) : EReal :=
  dense (fun h => dense (fun h => dense (fun h => dense (fun h => dense x Wup h) W0 h + b0 h) W1 h + b1 h) W2 h + b2 h) Wf c

/-- The whole stack of layers may be applied to the sum of the rows, the biases taken once per node, in place of being
    applied to each row and summed. The weights have to be real; the biases need not be. -/
theorem sum_layers [Nonempty N] {D H C : Type} [Fintype D] [Fintype H] {t : N → D → EReal} {u : D → EReal}
    {Wup : D → H → EReal} {W0 W1 W2 : H → H → EReal} {Wf : H → C → EReal} (b0 b1 b2 : H → EReal)
    (h : ∀ d, Sums (fun n => t n d) (u d)) (hup : ∀ k j, IsReal (Wup k j)) (h0 : ∀ k j, IsReal (W0 k j))
    (h1 : ∀ k j, IsReal (W1 k j)) (h2 : ∀ k j, IsReal (W2 k j)) (hf : ∀ k j, IsReal (Wf k j)) (c : C) :
    ∑ n, layers (t n) Wup W0 b0 W1 b1 W2 b2 Wf c
      = layers u Wup W0 (fun h => b0 h * ((Fintype.card N : ℝ) : EReal)) W1 (fun h => b1 h * ((Fintype.card N : ℝ) : EReal))
          W2 (fun h => b2 h * ((Fintype.card N : ℝ) : EReal)) Wf c :=
  Sums.sum_eq (Sums.dense (Sums.dense_bias (Sums.dense_bias (Sums.dense_bias (Sums.dense h hup) h0 b0) h1 b1) h2 b2) hf c)

/-- Aggregation. Every edge `e` carries the message `msg e` scaled by `∑ r, rbf e r * W r` to its node `dst e`. The sum over
    all nodes forgets the nodes: it is `∑ r, W r * ∑ e, rbf e r * msg e`. All values are real. -/
theorem sums_edges {E R : Type} [Fintype E] [Fintype R] [DecidableEq N] (dst : E → N) {msg : E → EReal} {rbf : E → R → EReal}
    {W : R → EReal} (hm : ∀ e, IsReal (msg e)) (hr : ∀ e r, IsReal (rbf e r)) (hW : ∀ r, IsReal (W r)) :
    Sums (fun n => ∑ e ∈ univ.filter (fun e => dst e = n), msg e * ∑ r, rbf e r * W r)
      (∑ r, W r * ∑ e, rbf e r * msg e) := by
  choose m hm using hm
  choose p hp using hr
  choose w hw using hW
  refine Or.inl ⟨fun n => ∑ e ∈ univ.filter (fun e => dst e = n), m e * ∑ r, p e r * w r, fun n => ?_, ?_⟩
  · simp only [hm, hp, hw, coe_sum, EReal.coe_mul]
  · rw [sum_fiberwise]
    have : ∑ e, m e * ∑ r, p e r * w r = ∑ r, w r * ∑ e, p e r * m e := by
      simp only [mul_sum]
      rw [sum_comm]
      exact sum_congr rfl fun r _ => sum_congr rfl fun e _ => by ring
    rw [this]
    simp only [hm, hp, hw, coe_sum, EReal.coe_mul]

end Cert.Sums

end
-- ==== Proof.Payload.lean ====
/- The kernel's arithmetic read at an index, over the extended reals: the product of one pair of edge blocks, and the layers
   the last point applies to the finished accumulator. -/
module

public import proofs.«01_k».proof.Proof.Sums
public import proofs.«01_k».proof.Proof.Gen.KernelIdeal.Value
public import Idealize.ShloMosaic.Lib.MatmulPlain

@[expose] public section

noncomputable section

namespace Cert.KernelIdeal.Payload

open Cert.KernelIdeal Cert.KernelIdeal.Gen Cert.Sums Idealize.ShloMosaic Idealize.ShloMosaic.ValueIdx

/-- The zero word of a product's accumulator is zero. -/
theorem ofBits_zero : (FloatOps.ofBits .f32 0x00000000#32 : Ideal .f32) = (0 : EReal) := by
  show Ideal.ofBits .f32 0x00000000#32 = 0
  simp [Ideal.ofBits, Ideal.ieee]

/-- The word of the literal `10000.0` is ten thousand. -/
theorem ofBits_nodes : (FloatOps.ofBits .f32 0x461C4000#32 : Ideal .f32) = ((10000 : ℝ) : EReal) := by
  show Ideal.ofBits .f32 0x461C4000#32 = _
  simp [Ideal.ofBits, Ideal.ieee, -EReal.coe_mul]
  norm_num

/-- One point's product: the sum over the block's edges of basis value times message. -/
theorem product_apply (x0 : Vec Ideal S6x32000 .f32) (x1 : Vec Ideal S32000x128 .f32) (r : Fin 6) (d : Fin 128) :
    k0_pay1 (F := Ideal) x0 x1 (ix2 r d) = ∑ k : Fin 32000, (x0 (ix2 r k) : EReal) * x1 (ix2 k d) := by
  unfold k0_pay1
  rw [shapeCast_self]
  refine (Ideal.matmul_plain_apply (some .fp32) x0 x1 (constant S6x128 .f32 0x00000000#32) r d).trans ?_
  show (FloatOps.ofBits .f32 0x00000000#32 : Ideal .f32) + _ = _
  rw [ofBits_zero]
  exact zero_add _

/-- A one-row product with a zero accumulator is one linear layer. -/
theorem row_product {K N : ℕ} (x : FVec Ideal ⟨2, ![1, K]⟩ .f32) (W : FVec Ideal ⟨2, ![K, N]⟩ .f32) (j : Fin N) :
    FloatOps.matmul (DotDims.plain 1 K N) (some .fp32) x W (constant ⟨2, ![1, N]⟩ .f32 0x00000000#32) (ix2 0 j)
      = dense (fun k => (x (ix2 0 k) : EReal)) (fun k j => W (ix2 k j)) j := by
  refine (Ideal.matmul_plain_apply (some .fp32) x W _ 0 j).trans ?_
  show (FloatOps.ofBits .f32 0x00000000#32 : Ideal .f32) + _ = _
  rw [ofBits_zero]
  exact zero_add _

/-- The aggregated row: the sum over the basis functions of weight times accumulator, column by column. -/
theorem aggregate_apply (w q : Vec Ideal S6x128 .f32) (d : Fin 128) :
    (shapeCast S1x128 (multiReduction (F := Ideal) (φ := .f32) .add [0] S128 (mulf w q) 0x00000000#32 reduces_S6x128_S128 (.inl rfl) rfl)
      shapeCasts_S128_S1x128 : Vec Ideal S1x128 .f32) (ix2 0 d)
      = ∑ r : Fin 6, (w (ix2 r d) : EReal) * q (ix2 r d) := by
  refine (shapeCast_addUnit_apply ![128] _ shapeCasts_S128_S1x128 (ix2 0 d)).trans ?_
  refine (Ideal.multiReduction_add_single _ _ reduces_S6x128_S128 (.inl rfl) rfl _).trans ?_
  refine Finset.sum_congr rfl fun r _ => ?_
  have e : reduces_S6x128_S128.lift (fun a => (ix2 (0 : Fin 1) d) a.succ) r = ix2 r d := by
    funext a
    match a with
    | ⟨0, _⟩ => rfl
    | ⟨1, _⟩ => rfl
  rw [e]
  rfl

/-- The last point's output: the layers applied to the aggregated row, with the biases the kernel is handed. -/
theorem output_apply (w q : Vec Ideal S6x128 .f32) (Wup : Vec Ideal S128x256 .f32) (W0 : Vec Ideal S256x256 .f32) (b0 : Vec Ideal S1x256 .f32)
    (W1 : Vec Ideal S256x256 .f32) (b1 : Vec Ideal S1x256 .f32) (W2 : Vec Ideal S256x256 .f32) (b2 : Vec Ideal S1x256 .f32)
    (Wf : Vec Ideal S256x12 .f32) (j : Fin 12) :
    k0_pay4 (F := Ideal) w q Wup W0 b0 W1 b1 W2 b2 Wf (ix2 0 j)
      = layers (fun d : Fin 128 => ∑ r : Fin 6, (w (ix2 r d) : EReal) * q (ix2 r d)) (fun k j => Wup (ix2 k j))
          (fun k j => W0 (ix2 k j)) (fun h => b0 (ix2 0 h)) (fun k j => W1 (ix2 k j)) (fun h => b1 (ix2 0 h))
          (fun k j => W2 (ix2 k j)) (fun h => b2 (ix2 0 h)) (fun k j => Wf (ix2 k j)) j := by
  unfold k0_pay4 layers
  dsimp only
  rw [shapeCast_self, shapeCast_self, shapeCast_self]
  refine (row_product _ Wf j).trans (congrArg (dense · _ j) (funext fun h => ?_))
  refine congrArg (· + (b2 (ix2 0 h) : EReal)) ?_
  refine (row_product _ W2 h).trans (congrArg (dense · _ h) (funext fun h => ?_))
  refine congrArg (· + (b1 (ix2 0 h) : EReal)) ?_
  refine (row_product _ W1 h).trans (congrArg (dense · _ h) (funext fun h => ?_))
  refine congrArg (· + (b0 (ix2 0 h) : EReal)) ?_
  refine (row_product _ W0 h).trans (congrArg (dense · _ h) (funext fun h => ?_))
  refine (row_product _ Wup h).trans (congrArg (dense · _ h) (funext fun d => ?_))
  exact aggregate_apply w q d

end Cert.KernelIdeal.Payload

end
-- ==== Proof.Blocks.lean ====
/- What the kernel's windows read, in terms of the launched arguments: which edges a point's blocks hold, the weights as they
   are, and each bias multiplied by the number of nodes. -/
module

public import proofs.«01_k».proof.Proof.Payload
public import Idealize.ShloMosaic.Lib.StableHlo.Run
public import Idealize.ShloMosaic.Lib.Tactic

@[expose] public section

noncomputable section

namespace Cert.KernelIdeal.Blocks

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- Before the kernel the host transposes the basis values. -/
theorem V_basis (c : Dev nD) : V (F := Ideal) m c main_v9
    = transpose S6x320000 [1, 0] (m ((c : Thread nD τ).loc main_arg1)) transposes_S320000x6_S6x320000_1_0 := by
  unfold_abbrev_sides
  after_results

/-- Before the kernel the host multiplies the first bias by ten thousand and makes it a row. -/
theorem V_bias0 (c : Dev nD) : V (F := Ideal) m c main_v2
    = shapeCast S1x256 (mulf (m ((c : Thread nD τ).loc main_arg6)) (broadcastInDim S256 ![] bcast_S_S256 (constant (F := Ideal) S_ .f32 0x461C4000#32))) shapeCasts_S256_S1x256 := by
  unfold_abbrev_sides
  after_results
  rfl

/-- The same for the second bias. -/
theorem V_bias1 (c : Dev nD) : V (F := Ideal) m c main_v5
    = shapeCast S1x256 (mulf (m ((c : Thread nD τ).loc main_arg8)) (broadcastInDim S256 ![] bcast_S_S256 (constant (F := Ideal) S_ .f32 0x461C4000#32))) shapeCasts_S256_S1x256 := by
  unfold_abbrev_sides
  after_results
  rfl

/-- The same for the third bias. -/
theorem V_bias2 (c : Dev nD) : V (F := Ideal) m c main_v8
    = shapeCast S1x256 (mulf (m ((c : Thread nD τ).loc main_arg10)) (broadcastInDim S256 ![] bcast_S_S256 (constant (F := Ideal) S_ .f32 0x461C4000#32))) shapeCasts_S256_S1x256 := by
  unfold_abbrev_sides
  after_results
  rfl

/-- A bias row the host prepared, read at a column. -/
theorem bias_apply (b : Vec Ideal S256 .f32) (h : Fin 256) :
    shapeCast S1x256 (mulf b (broadcastInDim S256 ![] bcast_S_S256 (constant (F := Ideal) S_ .f32 0x461C4000#32))) shapeCasts_S256_S1x256 (ix2 0 h)
      = (b (ix1 h) : EReal) * ((10000 : ℝ) : EReal) := by
  refine (shapeCast_addUnit_apply ![256] _ shapeCasts_S256_S1x256 (ix2 0 h)).trans ?_
  have e : (fun a : Fin 1 => (ix2 (0 : Fin 1) h) a.succ) = ix1 h := by
    funext a
    match a with
    | ⟨0, _⟩ => rfl
  rw [e, ← Payload.ofBits_nodes]
  rfl

/-- Point `t`'s blocks start at edge `32000 * t`. -/
theorem index_edges (t : Fin cfg0.N) : win0_0.index t 0 = 0 ∧ win0_0.index t 1 = t.val ∧ win0_1.index t 0 = t.val ∧ win0_1.index t 1 = 0 :=
  (by decide +kernel : ∀ t : Fin grid0.N, win0_0.index t 0 = 0 ∧ win0_0.index t 1 = t.val ∧ win0_1.index t 0 = t.val ∧ win0_1.index t 1 = 0) t

/-- Edge `k` of point `t`'s block, as an edge. -/
def edge (t : Fin cfg0.N) (k : Fin 32000) : Fin 320000 :=
  ⟨32000 * t.val + k.val, by have h : t.val < 10 := lt_of_lt_of_eq t.isLt N_0; omega⟩

/-- The block of basis values at point `t`: basis function `r` at the block's edge `k`. -/
theorem basis_block (c : Dev nD) (t : Fin cfg0.N) (r : Fin 6) (k : Fin 32000) :
    (iblk (F := Ideal) m c 0 t : Vec Ideal S6x32000 .f32) (ix2 r k) = m ((c : Thread nD τ).loc main_arg1) (ix2 (edge t k) r) := by
  obtain ⟨h0, h1, -, -⟩ := index_edges t
  unfold iblk
  rw [View.read_apply]
  show V (F := Ideal) m c main_v9 _ = _
  rw [V_basis]
  refine transpose_apply (s := S320000x6) (t := S6x320000) [1, 0] _ _ _ (ix2 (edge t k) r) fun b => ?_
  match b with
  | ⟨0, _⟩ => show r.val = win0_0.index t 0 * 6 + 1 * r.val; rw [h0]; omega
  | ⟨1, _⟩ => show 32000 * t.val + k.val = win0_0.index t 1 * 32000 + 1 * k.val; rw [h1]; omega

/-- The block of messages at point `t`: the message of the block's edge `k`. -/
theorem message_block (c : Dev nD) (t : Fin cfg0.N) (k : Fin 32000) (d : Fin 128) :
    (iblk (F := Ideal) m c 1 t : Vec Ideal S32000x128 .f32) (ix2 k d) = m ((c : Thread nD τ).loc main_arg0) (ix2 (edge t k) d) := by
  obtain ⟨-, -, h0, h1⟩ := index_edges t
  unfold iblk
  rw [View.read_apply]
  show V (F := Ideal) m c main_arg0 _ = _
  rw [V_main_arg0]
  congr 1
  funext a
  apply Fin.ext
  match a with
  | ⟨0, _⟩ => show win0_1.index t 0 * 32000 + 1 * k.val = 32000 * t.val + k.val; rw [h0]; omega
  | ⟨1, _⟩ => show win0_1.index t 1 * 128 + 1 * d.val = d.val; rw [h1]; omega

/-- The basis weights are read whole at every point. -/
theorem whole_W_rbf (c : Dev nD) (t : Fin cfg0.N) : (iblk (F := Ideal) m c 2 t : Vec Ideal S6x128 .f32) = V (F := Ideal) m c main_arg3 := by
  have h := (by decide +kernel : ∀ t : Fin grid0.N, win0_2.index t 0 = 0 ∧ win0_2.index t 1 = 0) t
  funext j
  unfold iblk
  rw [View.read_apply]
  show V (F := Ideal) m c main_arg3 _ = _
  congr 1
  funext a
  apply Fin.ext
  match a with
  | ⟨0, _⟩ => show win0_2.index t 0 * 6 + 1 * (j 0).val = (j 0).val; rw [h.1]; omega
  | ⟨1, _⟩ => show win0_2.index t 1 * 128 + 1 * (j 1).val = (j 1).val; rw [h.2]; omega

/-- The up-projection's weights are read whole at every point. -/
theorem whole_W_up (c : Dev nD) (t : Fin cfg0.N) : (iblk (F := Ideal) m c 3 t : Vec Ideal S128x256 .f32) = V (F := Ideal) m c main_arg4 := by
  have h := (by decide +kernel : ∀ t : Fin grid0.N, win0_3.index t 0 = 0 ∧ win0_3.index t 1 = 0) t
  funext j
  unfold iblk
  rw [View.read_apply]
  show V (F := Ideal) m c main_arg4 _ = _
  congr 1
  funext a
  apply Fin.ext
  match a with
  | ⟨0, _⟩ => show win0_3.index t 0 * 128 + 1 * (j 0).val = (j 0).val; rw [h.1]; omega
  | ⟨1, _⟩ => show win0_3.index t 1 * 256 + 1 * (j 1).val = (j 1).val; rw [h.2]; omega

/-- The first dense layer's weights are read whole at every point. -/
theorem whole_W0 (c : Dev nD) (t : Fin cfg0.N) : (iblk (F := Ideal) m c 4 t : Vec Ideal S256x256 .f32) = V (F := Ideal) m c main_arg5 := by
  have h := (by decide +kernel : ∀ t : Fin grid0.N, win0_4.index t 0 = 0 ∧ win0_4.index t 1 = 0) t
  funext j
  unfold iblk
  rw [View.read_apply]
  show V (F := Ideal) m c main_arg5 _ = _
  congr 1
  funext a
  apply Fin.ext
  match a with
  | ⟨0, _⟩ => show win0_4.index t 0 * 256 + 1 * (j 0).val = (j 0).val; rw [h.1]; omega
  | ⟨1, _⟩ => show win0_4.index t 1 * 256 + 1 * (j 1).val = (j 1).val; rw [h.2]; omega

/-- The first bias row is read whole at every point. -/
theorem whole_b0 (c : Dev nD) (t : Fin cfg0.N) : (iblk (F := Ideal) m c 5 t : Vec Ideal S1x256 .f32) = V (F := Ideal) m c main_v2 := by
  have h := (by decide +kernel : ∀ t : Fin grid0.N, win0_5.index t 0 = 0 ∧ win0_5.index t 1 = 0) t
  funext j
  unfold iblk
  rw [View.read_apply]
  show V (F := Ideal) m c main_v2 _ = _
  congr 1
  funext a
  apply Fin.ext
  match a with
  | ⟨0, _⟩ => show win0_5.index t 0 * 1 + 1 * (j 0).val = (j 0).val; rw [h.1]; omega
  | ⟨1, _⟩ => show win0_5.index t 1 * 256 + 1 * (j 1).val = (j 1).val; rw [h.2]; omega

/-- The second dense layer's weights are read whole at every point. -/
theorem whole_W1 (c : Dev nD) (t : Fin cfg0.N) : (iblk (F := Ideal) m c 6 t : Vec Ideal S256x256 .f32) = V (F := Ideal) m c main_arg7 := by
  have h := (by decide +kernel : ∀ t : Fin grid0.N, win0_6.index t 0 = 0 ∧ win0_6.index t 1 = 0) t
  funext j
  unfold iblk
  rw [View.read_apply]
  show V (F := Ideal) m c main_arg7 _ = _
  congr 1
  funext a
  apply Fin.ext
  match a with
  | ⟨0, _⟩ => show win0_6.index t 0 * 256 + 1 * (j 0).val = (j 0).val; rw [h.1]; omega
  | ⟨1, _⟩ => show win0_6.index t 1 * 256 + 1 * (j 1).val = (j 1).val; rw [h.2]; omega

/-- The second bias row is read whole at every point. -/
theorem whole_b1 (c : Dev nD) (t : Fin cfg0.N) : (iblk (F := Ideal) m c 7 t : Vec Ideal S1x256 .f32) = V (F := Ideal) m c main_v5 := by
  have h := (by decide +kernel : ∀ t : Fin grid0.N, win0_7.index t 0 = 0 ∧ win0_7.index t 1 = 0) t
  funext j
  unfold iblk
  rw [View.read_apply]
  show V (F := Ideal) m c main_v5 _ = _
  congr 1
  funext a
  apply Fin.ext
  match a with
  | ⟨0, _⟩ => show win0_7.index t 0 * 1 + 1 * (j 0).val = (j 0).val; rw [h.1]; omega
  | ⟨1, _⟩ => show win0_7.index t 1 * 256 + 1 * (j 1).val = (j 1).val; rw [h.2]; omega

/-- The third dense layer's weights are read whole at every point. -/
theorem whole_W2 (c : Dev nD) (t : Fin cfg0.N) : (iblk (F := Ideal) m c 8 t : Vec Ideal S256x256 .f32) = V (F := Ideal) m c main_arg9 := by
  have h := (by decide +kernel : ∀ t : Fin grid0.N, win0_8.index t 0 = 0 ∧ win0_8.index t 1 = 0) t
  funext j
  unfold iblk
  rw [View.read_apply]
  show V (F := Ideal) m c main_arg9 _ = _
  congr 1
  funext a
  apply Fin.ext
  match a with
  | ⟨0, _⟩ => show win0_8.index t 0 * 256 + 1 * (j 0).val = (j 0).val; rw [h.1]; omega
  | ⟨1, _⟩ => show win0_8.index t 1 * 256 + 1 * (j 1).val = (j 1).val; rw [h.2]; omega

/-- The third bias row is read whole at every point. -/
theorem whole_b2 (c : Dev nD) (t : Fin cfg0.N) : (iblk (F := Ideal) m c 9 t : Vec Ideal S1x256 .f32) = V (F := Ideal) m c main_v8 := by
  have h := (by decide +kernel : ∀ t : Fin grid0.N, win0_9.index t 0 = 0 ∧ win0_9.index t 1 = 0) t
  funext j
  unfold iblk
  rw [View.read_apply]
  show V (F := Ideal) m c main_v8 _ = _
  congr 1
  funext a
  apply Fin.ext
  match a with
  | ⟨0, _⟩ => show win0_9.index t 0 * 1 + 1 * (j 0).val = (j 0).val; rw [h.1]; omega
  | ⟨1, _⟩ => show win0_9.index t 1 * 256 + 1 * (j 1).val = (j 1).val; rw [h.2]; omega

/-- The output projection's weights are read whole at every point. -/
theorem whole_W_final (c : Dev nD) (t : Fin cfg0.N) : (iblk (F := Ideal) m c 10 t : Vec Ideal S256x12 .f32) = V (F := Ideal) m c main_arg11 := by
  have h := (by decide +kernel : ∀ t : Fin grid0.N, win0_10.index t 0 = 0 ∧ win0_10.index t 1 = 0) t
  funext j
  unfold iblk
  rw [View.read_apply]
  show V (F := Ideal) m c main_arg11 _ = _
  congr 1
  funext a
  apply Fin.ext
  match a with
  | ⟨0, _⟩ => show win0_10.index t 0 * 256 + 1 * (j 0).val = (j 0).val; rw [h.1]; omega
  | ⟨1, _⟩ => show win0_10.index t 1 * 12 + 1 * (j 1).val = (j 1).val; rw [h.2]; omega

end Cert.KernelIdeal.Blocks

end
-- ==== Proof.KernelValue.lean ====
/- The kernel's result over the extended reals, as one formula of its arguments: the products of all edges' basis values and
   messages, weighted, then the layers with each bias multiplied by the number of nodes. -/
module

public import proofs.«01_k».proof.Proof.Steps
public import proofs.«01_k».proof.Proof.Blocks

@[expose] public section

noncomputable section

namespace Cert.KernelIdeal.Total

open Cert.KernelIdeal Cert.KernelIdeal.Gen Cert.KernelIdeal.Blocks Cert.Sums Idealize.ShloMosaic Idealize.ShloMosaic.TcCoe Idealize.ShloMosaic.ValueIdx Idealize.SL.Sem

/-- What edge number `e` adds to the accumulator at `(r, d)`; nothing past the last edge. -/
def edgeTerm (msg : Vec Ideal S320000x128 .f32) (rbf : Vec Ideal S320000x6 .f32) (r : Fin 6) (d : Fin 128) (e : ℕ) : EReal :=
  if h : e < 320000 then (rbf (ix2 ⟨e, h⟩ r) : EReal) * msg (ix2 ⟨e, h⟩ d) else 0

/-- The terms of all edges are the sum over the edges of basis value times message. -/
theorem sum_edgeTerm (msg : Vec Ideal S320000x128 .f32) (rbf : Vec Ideal S320000x6 .f32) (r : Fin 6) (d : Fin 128) :
    ∑ e ∈ Finset.range 320000, edgeTerm msg rbf r d e = ∑ e : Fin 320000, (rbf (ix2 e r) : EReal) * msg (ix2 e d) := by
  rw [Finset.sum_range]
  refine Finset.sum_congr rfl fun e _ => ?_
  rw [edgeTerm, dif_pos e.isLt]

/-- The kernel's result at column `j`, as a formula of its float arguments. -/
def formula (msg : Vec Ideal S320000x128 .f32) (rbf : Vec Ideal S320000x6 .f32) (Wrbf : Vec Ideal S6x128 .f32) (Wup : Vec Ideal S128x256 .f32)
    (W0 : Vec Ideal S256x256 .f32) (b0 : Vec Ideal S256 .f32) (W1 : Vec Ideal S256x256 .f32) (b1 : Vec Ideal S256 .f32)
    (W2 : Vec Ideal S256x256 .f32) (b2 : Vec Ideal S256 .f32) (Wf : Vec Ideal S256x12 .f32) (j : Fin 12) : EReal :=
  layers (fun d : Fin 128 => ∑ r : Fin 6, (Wrbf (ix2 r d) : EReal) * ∑ e : Fin 320000, (rbf (ix2 e r) : EReal) * msg (ix2 e d))
    (fun k j => Wup (ix2 k j))
    (fun k j => W0 (ix2 k j)) (fun h => (b0 (ix1 h) : EReal) * ((10000 : ℝ) : EReal))
    (fun k j => W1 (ix2 k j)) (fun h => (b1 (ix1 h) : EReal) * ((10000 : ℝ) : EReal))
    (fun k j => W2 (ix2 k j)) (fun h => (b2 (ix1 h) : EReal) * ((10000 : ℝ) : EReal))
    (fun k j => Wf (ix2 k j)) j

variable (m : (ℓ : Loc nD τ sig) → Buf (Elt Ideal) ℓ) (c : Dev nD)

/-- What edge number `e` adds, of the launched arguments. -/
abbrev term (r : Fin 6) (d : Fin 128) : ℕ → EReal :=
  edgeTerm (m ((c : Thread nD τ).loc main_arg0)) (m ((c : Thread nD τ).loc main_arg1)) r d

/-- The blocks' product at point `t` adds the terms of the edges `32000 * t` up to `32000 * (t + 1)`. -/
theorem product_block (t : Fin cfg0.N) (r : Fin 6) (d : Fin 128) :
    k0_pay1 (F := Ideal) (iblk m c 0 t) (iblk m c 1 t) (ix2 r d)
      = ∑ k ∈ Finset.range 32000, term m c r d (32000 * t.val + k) := by
  refine (Payload.product_apply _ _ r d).trans ?_
  rw [Finset.sum_range]
  refine Finset.sum_congr rfl fun k _ => ?_
  rw [basis_block, message_block, term, edgeTerm, dif_pos (show 32000 * t.val + k.val < 320000 from (edge t k).isLt)]
  rfl

/-- After point `n`, not the last, the accumulator holds the sum over the edges seen so far. -/
theorem accumulated (r : Fin 6) (d : Fin 128) (n : ℕ) (hn : n < cfg0.N) (h8 : n ≤ 8) :
    ((outsAt0 m c n hn).2 (ix2 r d) : EReal) = ∑ e ∈ Finset.range (32000 * (n + 1)), term m c r d e := by
  induction n with
  | zero =>
    rw [show outsAt0 m c 0 hn = _ from outsAt0_A m c ⟨0, hn⟩ (by simp) (by simp) (by simp)]
    dsimp only
    rw [Steps.scratch_first, product_block]
    refine Finset.sum_congr (by norm_num) fun e _ => ?_
    rw [show 32000 * (⟨0, hn⟩ : Fin cfg0.N).val + e = e by simp]
  | succ n ih =>
    have ih := ih (Nat.lt_of_succ_lt hn) (by omega)
    rw [show outsAt0 m c (n + 1) hn = _ from outsAt0_B m c ⟨n + 1, hn⟩ (by dsimp only; omega) (by dsimp only; omega) (by dsimp only; omega)]
    dsimp only
    rw [Steps.scratch_middle]
    show ((outsAt0 m c n _).2 (ix2 r d) : EReal) + (k0_pay1 (F := Ideal) _ _ (ix2 r d) : EReal) = _
    rw [ih, product_block, show 32000 * (n + 1 + 1) = 32000 * (n + 1) + 32000 by ring, Finset.sum_range_add]

/-- With the last point's product added, the accumulator holds the sum over all edges. -/
theorem accumulated_all (h8 : 8 < cfg0.N) (h9 : 9 < cfg0.N) (r : Fin 6) (d : Fin 128) :
    ((addf (outsAt0 m c 8 h8).2 (k0_pay1 (F := Ideal) (iblk m c 0 ⟨9, h9⟩) (iblk m c 1 ⟨9, h9⟩)) : Vec Ideal S6x128 .f32) (ix2 r d) : EReal)
      = ∑ e ∈ Finset.range 320000, term m c r d e := by
  show ((outsAt0 m c 8 h8).2 (ix2 r d) : EReal) + (k0_pay1 (F := Ideal) _ _ (ix2 r d) : EReal) = _
  rw [accumulated m c r d 8 h8 le_rfl, product_block]
  exact (Finset.sum_range_add (term m c r d) 288000 32000).symm

/-- The kernel's result is what the last point writes: the layers' term of its blocks and the finished accumulator. -/
theorem result_last (h8 : 8 < cfg0.N) (h9 : 9 < cfg0.N) :
    (Value.G11 (F := Ideal) m c : Vec Ideal S1x12 .f32)
      = k0_pay4 (F := Ideal) (iblk m c 2 ⟨9, h9⟩)
          (addf (outsAt0 m c 8 h8).2 (k0_pay1 (F := Ideal) (iblk m c 0 ⟨9, h9⟩) (iblk m c 1 ⟨9, h9⟩)))
          (iblk m c 3 ⟨9, h9⟩) (iblk m c 4 ⟨9, h9⟩) (iblk m c 5 ⟨9, h9⟩) (iblk m c 6 ⟨9, h9⟩) (iblk m c 7 ⟨9, h9⟩)
          (iblk m c 8 ⟨9, h9⟩) (iblk m c 9 ⟨9, h9⟩) (iblk m c 10 ⟨9, h9⟩) := by
  refine (Value.G11_last m c).trans ?_
  refine (congrArg Prod.fst (Value.outsAt0_sweep (F := Ideal) m c 9 h9)).symm.trans ?_
  refine (congrArg Prod.fst (outsAt0_C m c ⟨9, h9⟩ (by simp) (by simp) (by simp))).trans ?_
  dsimp only
  exact Steps.output_last _ _ _ _ _ _ _ _ _ _ _ _ _ _ _ _ _ _ _ _ _ _ _ _ _ _ _ _ _ _ _ _ _ _ _ _ _ _ _ _ _ _ _

/-- The kernel's result at column `j`. -/
theorem result_apply (j : Fin 12) :
    (Value.G11 (F := Ideal) m c : Vec Ideal S1x12 .f32) (ix2 0 j)
      = formula (m ((c : Thread nD τ).loc main_arg0)) (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11)) j := by
  have h9 : 9 < cfg0.N := lt_of_lt_of_eq (by norm_num) N_0.symm
  have h8 : 8 < cfg0.N := lt_of_lt_of_eq (by norm_num) N_0.symm
  refine (congrFun (result_last m c h8 h9) (ix2 0 j)).trans ?_
  refine (Payload.output_apply _ _ _ _ _ _ _ _ _ _ j).trans ?_
  rw [whole_W_rbf, whole_W_up, whole_W0, whole_b0, whole_W1, whole_b1, whole_W2, whole_b2, whole_W_final]
  rw [V_main_arg3, V_main_arg4, V_main_arg5, V_main_arg7, V_main_arg9, V_main_arg11, V_bias0, V_bias1, V_bias2]
  unfold formula
  simp only [accumulated_all m c h8 h9, sum_edgeTerm]
  congr 1
  · exact funext fun h => bias_apply _ h
  · exact funext fun h => bias_apply _ h
  · exact funext fun h => bias_apply _ h

end Cert.KernelIdeal.Total

end
-- ==== Proof.Scatter.lean ====
/- The reference's aggregation read at a node: the sum of the messages of the edges whose destination is that node. -/
module

public import proofs.«01_k».proof.Proof.Gen.ReferenceIdeal.Read
public import Idealize.ShloMosaic.Lib.Routing.OpsPair

@[expose] public section

noncomputable section

namespace Cert.ReferenceIdeal.Scatter

open Cert.ReferenceIdeal Cert.ReferenceIdeal.Gen Cert.ReferenceIdeal.Read Idealize.ShloMosaic Idealize.ShloMosaic.ValueIdx Finset

/-- The dimension numbers of the reference's scatter. -/
abbrev dims : ScatterDims S10000x128 S320000x1 S320000x128 := scatter_S10000x128_S320000x1_S320000x128_1_0_0_1

/-- The rows of the updates start at the edge's index word, read signed. -/
theorem start_row (idx : IVec S320000x1 32) (e : Fin 320000) (d : Fin 128) : dims.start (ix2 e d) idx 0 = (idx (ix2 e 0)).toInt := by
  have hm : (0 : Fin 2) ∈ dims.scatterDimsToOperandDims := List.mem_singleton.2 rfl
  unfold ScatterDims.start
  rw [dif_pos hm]
  have hsi : dims.siIdx (ix2 e d) ⟨dims.scatterDimsToOperandDims.idxOf 0, List.idxOf_lt_length_iff.2 hm⟩ = ix2 e (0 : Fin 1) := by
    funext b
    match b with
    | ⟨0, _⟩ => rfl
    | ⟨1, _⟩ => exact Subsingleton.elim (α := Fin 1) _ _
  rw [hsi]

/-- No index word moves an update along the columns. -/
theorem start_column (idx : IVec S320000x1 32) (e : Fin 320000) (d : Fin 128) : dims.start (ix2 e d) idx 1 = 0 := by
  unfold ScatterDims.start
  exact dif_neg (show ¬(1 : Fin S10000x128.rank) ∈ dims.scatterDimsToOperandDims from (by decide : ¬(1 : Fin 2) ∈ [(0 : Fin 2)]))

/-- An update is one row: it has no row coordinate of its own. -/
theorem window_row (e : Fin 320000) (d : Fin 128) : dims.window (ix2 e d) 0 = 0 := by
  unfold ScatterDims.window
  exact dif_neg (show ¬(0 : Fin S10000x128.rank) ∈ dims.sKept from (by decide : ¬(0 : Fin S10000x128.rank) ∈ S10000x128.kept [0]))

/-- An update's column is the column it adds to. -/
theorem window_column (e : Fin 320000) (d : Fin 128) : dims.window (ix2 e d) 1 = d.val := by
  unfold ScatterDims.window
  rw [dif_pos (show (1 : Fin S10000x128.rank) ∈ dims.sKept from (by decide : (1 : Fin S10000x128.rank) ∈ S10000x128.kept [0]))]
  rfl

/-- The update of edge `e` at column `d'` lands at node `n`, column `d`, exactly when the edge's word is `n` and the columns agree. -/
theorem lands (idx : IVec S320000x1 32) (e : Fin 320000) (d' : Fin 128) (n : Fin 10000) (d : Fin 128) :
    dims.resultIdx? (ix2 e d') idx = some (ix2 n d) ↔ (idx (ix2 e 0)).toInt = (n.val : Int) ∧ d' = d := by
  refine (Routing.resultIdx?_ix2 (R := 10000) (C := 128) dims (ix2 e d') idx n d).trans ?_
  rw [start_row, start_column, window_row, window_column, Fin.ext_iff]
  omega

/-- The aggregated features of node `n`: the sum, over the edges into `n`, of message times the edge's basis combination. -/
theorem aggregated_apply (x0 : Vec Ideal S320000x128 .f32) (x1 : Vec Ideal S320000x6 .f32) (x2 : Vec Ideal S320000 .i32) (x3 : Vec Ideal S6x128 .f32)
    (n : Fin 10000) (d : Fin 128) :
    (val_main_v4 (F := Ideal) x0 x1 x2 x3 : Vec Ideal S10000x128 .f32) (ix2 n d)
      = ∑ e ∈ univ.filter (fun e : Fin 320000 => (x2 (ix1 e) : BitVec 32).toInt = (n.val : Int)),
          (x0 (ix2 e d) : EReal) * ∑ r : Fin 6, (x1 (ix2 e r) : EReal) * x3 (ix2 r d) := by
  show (val_main_v2 (F := Ideal) (ix2 n d) : EReal)
    + ∑ j ∈ univ.filter (fun j => dims.resultIdx? j (val_main_v3 (F := Ideal) x2) = some (ix2 n d)), (val_main_v1 (F := Ideal) x0 x1 x3 j : EReal) = _
  rw [val_main_v2_apply, val_main_cst_apply]
  have h0 : (FloatOps.ofBits .f32 0x00000000#32 : Ideal .f32) = (0 : EReal) := by
    show Ideal.ofBits .f32 0x00000000#32 = 0
    simp [Ideal.ofBits, Ideal.ieee]
  rw [h0, zero_add, sum_filter, sum_filter]
  refine (sum_idx2 (n0 := 320000) (n1 := 128) _).trans (sum_congr rfl fun e _ => ?_)
  have hw : val_main_v3 (F := Ideal) x2 (ix2 e 0) = x2 (ix1 e) := by
    rw [val_main_v3_apply]
    refine congrArg x2 (funext fun a => ?_)
    match a with
    | ⟨0, _⟩ => rfl
  have hv : (val_main_v1 (F := Ideal) x0 x1 x3 (ix2 e d) : EReal) = (x0 (ix2 e d) : EReal) * ∑ r : Fin 6, (x1 (ix2 e r) : EReal) * x3 (ix2 r d) := by
    rw [val_main_v1_apply, val_main_v0_apply]
    have el : ∀ r : Fin 6, lidx_main_v0 (ix2 e d) r = ix2 e r := fun r => eq_ix2 (n0 := 320000) (n1 := 6) _
    have er : ∀ r : Fin 6, ridx_main_v0 (ix2 e d) r = ix2 r d := fun r => eq_ix2 (n0 := 6) (n1 := 128) _
    simp only [el, er]
    rfl
  simp only [lands, hw]
  by_cases h : (x2 (ix1 e) : BitVec 32).toInt = (n.val : Int)
  · simp only [h, true_and, if_true]
    rw [sum_ite_eq' univ d, if_pos (mem_univ d)]
    exact hv
  · simp only [h, false_and, if_false, sum_const_zero]

end Cert.ReferenceIdeal.Scatter

end
-- ==== Proof.RefValue.lean ====
/- The reference's result over the extended reals, as one formula of its arguments: the sum over the nodes of the layers
   applied to each node's aggregated row. -/
module

public import proofs.«01_k».proof.Proof.Sums
public import proofs.«01_k».proof.Proof.Scatter

@[expose] public section

noncomputable section

namespace Cert.ReferenceIdeal.Total

open Cert.ReferenceIdeal Cert.ReferenceIdeal.Gen Cert.ReferenceIdeal.Read Cert.Sums Idealize.ShloMosaic Idealize.ShloMosaic.ValueIdx Finset

variable (x0 : Vec Ideal S320000x128 .f32) (x1 : Vec Ideal S320000x6 .f32) (x2 : Vec Ideal S320000 .i32) (x3 : Vec Ideal S6x128 .f32)
  (x4 : Vec Ideal S128x256 .f32) (x5 : Vec Ideal S256x256 .f32) (x6 : Vec Ideal S256 .f32) (x7 : Vec Ideal S256x256 .f32)
  (x8 : Vec Ideal S256 .f32) (x9 : Vec Ideal S256x256 .f32) (x10 : Vec Ideal S256 .f32) (x11 : Vec Ideal S256x12 .f32)

/-- Node `n`'s aggregated row: over the edges into `n`, message times the edge's combination of the basis weights. -/
def row (n : Fin 10000) (d : Fin 128) : EReal :=
  ∑ e ∈ univ.filter (fun e : Fin 320000 => (x2 (ix1 e) : BitVec 32).toInt = (n.val : Int)),
    (x0 (ix2 e d) : EReal) * ∑ r : Fin 6, (x1 (ix2 e r) : EReal) * x3 (ix2 r d)

/-- A product of matrices read at `(n, j)` through its two index functions, from what the left operand holds in row `n`. -/
theorem layer {K N : ℕ} (v : Fin K → EReal) (y : (⟨2, ![10000, K]⟩ : Shape).Idx → EReal) (W : (⟨2, ![K, N]⟩ : Shape).Idx → EReal) (n : Fin 10000) (j : Fin N)
    (l : Fin K → (⟨2, ![10000, K]⟩ : Shape).Idx) (r : Fin K → (⟨2, ![K, N]⟩ : Shape).Idx) (hl : ∀ k, l k = ix2 n k) (hr : ∀ k, r k = ix2 k j)
    (hv : ∀ k, y (ix2 n k) = v k) : ∑ k, y (l k) * W (r k) = dense v (fun k j => W (ix2 k j)) j := by
  unfold dense
  simp only [hl, hr, hv]

/-- A bias broadcast over the nodes, read at `(n, h)`. -/
theorem bias0 (n : Fin 10000) (h : Fin 256) : (val_main_v8 (F := Ideal) x6 (ix2 n h) : EReal) = x6 (ix1 h) := by
  rw [val_main_v8_apply, val_main_v7_apply]
  exact congrArg x6 (eq_ix1 (n := 256) _)

/-- The second bias likewise. -/
theorem bias1 (n : Fin 10000) (h : Fin 256) : (val_main_v12 (F := Ideal) x8 (ix2 n h) : EReal) = x8 (ix1 h) := by
  rw [val_main_v12_apply, val_main_v11_apply]
  exact congrArg x8 (eq_ix1 (n := 256) _)

/-- The third bias likewise. -/
theorem bias2 (n : Fin 10000) (h : Fin 256) : (val_main_v16 (F := Ideal) x10 (ix2 n h) : EReal) = x10 (ix1 h) := by
  rw [val_main_v16_apply, val_main_v15_apply]
  exact congrArg x10 (eq_ix1 (n := 256) _)

/-- Node `n`'s output features: the layers applied to its aggregated row. -/
theorem node_apply (n : Fin 10000) (j : Fin 12) :
    (val_main_v18 (F := Ideal) x0 x1 x2 x3 x4 x5 x6 x7 x8 x9 x10 x11 (ix2 n j) : EReal)
      = layers (row x0 x1 x2 x3 n) (fun k j => x4 (ix2 k j))
          (fun k j => x5 (ix2 k j)) (fun h => x6 (ix1 h)) (fun k j => x7 (ix2 k j)) (fun h => x8 (ix1 h))
          (fun k j => x9 (ix2 k j)) (fun h => x10 (ix1 h)) (fun k j => x11 (ix2 k j)) j := by
  unfold layers
  refine (val_main_v18_apply x0 x1 x2 x3 x4 x5 x6 x7 x8 x9 x10 x11 (ix2 n j)).trans ?_
  refine layer _ _ x11 n j _ _ (fun k => eq_ix2 (n0 := 10000) (n1 := 256) _) (fun k => eq_ix2 (n0 := 256) (n1 := 12) _) fun h => ?_
  refine (val_main_v17_apply x0 x1 x2 x3 x4 x5 x6 x7 x8 x9 x10 (ix2 n h)).trans (congrArg₂ (fun a b : EReal => a + b) ?_ (bias2 x10 n h))
  refine (val_main_v14_apply x0 x1 x2 x3 x4 x5 x6 x7 x8 x9 (ix2 n h)).trans ?_
  refine layer _ _ x9 n h _ _ (fun k => eq_ix2 (n0 := 10000) (n1 := 256) _) (fun k => eq_ix2 (n0 := 256) (n1 := 256) _) fun h => ?_
  refine (val_main_v13_apply x0 x1 x2 x3 x4 x5 x6 x7 x8 (ix2 n h)).trans (congrArg₂ (fun a b : EReal => a + b) ?_ (bias1 x8 n h))
  refine (val_main_v10_apply x0 x1 x2 x3 x4 x5 x6 x7 (ix2 n h)).trans ?_
  refine layer _ _ x7 n h _ _ (fun k => eq_ix2 (n0 := 10000) (n1 := 256) _) (fun k => eq_ix2 (n0 := 256) (n1 := 256) _) fun h => ?_
  refine (val_main_v9_apply x0 x1 x2 x3 x4 x5 x6 (ix2 n h)).trans (congrArg₂ (fun a b : EReal => a + b) ?_ (bias0 x6 n h))
  refine (val_main_v6_apply x0 x1 x2 x3 x4 x5 (ix2 n h)).trans ?_
  refine layer _ _ x5 n h _ _ (fun k => eq_ix2 (n0 := 10000) (n1 := 256) _) (fun k => eq_ix2 (n0 := 256) (n1 := 256) _) fun h => ?_
  refine (val_main_v5_apply x0 x1 x2 x3 x4 (ix2 n h)).trans ?_
  refine layer _ _ x4 n h _ _ (fun k => eq_ix2 (n0 := 10000) (n1 := 128) _) (fun k => eq_ix2 (n0 := 128) (n1 := 256) _) fun d => ?_
  exact Scatter.aggregated_apply x0 x1 x2 x3 n d

/-- The reference's result at column `j`: the sum of the nodes' output features. -/
theorem result_apply (j : Fin 12) :
    (val_main_v20 (F := Ideal) x0 x1 x2 x3 x4 x5 x6 x7 x8 x9 x10 x11 (ix2 0 j) : EReal)
      = ∑ n : Fin 10000, layers (row x0 x1 x2 x3 n) (fun k j => x4 (ix2 k j))
          (fun k j => x5 (ix2 k j)) (fun h => x6 (ix1 h)) (fun k j => x7 (ix2 k j)) (fun h => x8 (ix1 h))
          (fun k j => x9 (ix2 k j)) (fun h => x10 (ix1 h)) (fun k j => x11 (ix2 k j)) j := by
  rw [val_main_v20_apply, val_main_v19_apply, val_main_cst_0_apply]
  have h0 : (FloatOps.ofBits .f32 0x00000000#32 : Ideal .f32) = (0 : EReal) := by
    show Ideal.ofBits .f32 0x00000000#32 = 0
    simp [Ideal.ofBits, Ideal.ieee]
  rw [h0]
  refine (zero_add _).trans (sum_congr rfl fun n _ => ?_)
  have e : idx_main_v19 (idx_main_v20 (ix2 (0 : Fin 1) j)) n = ix2 n j := eq_ix2 (n0 := 10000) (n1 := 12) _
  rw [e]
  exact node_apply x0 x1 x2 x3 x4 x5 x6 x7 x8 x9 x10 x11 n j

end Cert.ReferenceIdeal.Total

end
-- ==== Proof.Precondition.lean ====
/- What the value claim's precondition says of the arguments: every edge's destination is a node, and the named float arguments
   hold real numbers only. -/
module

public import proofs.«01_k».proof.Defs
public import proofs.«01_k».proof.Proof.Sums
public import proofs.«01_k».proof.Proof.Gen.Pre_finite_and_in_range
public import Idealize.ShloMosaic.PureOps.Ideal.Laws

@[expose] public section

noncomputable section

namespace Cert.Precondition

open Cert.Sums Idealize.ShloMosaic

/-- The word the float tests compare with is plus infinity. -/
theorem ofBits_inf : (FloatOps.ofBits .f32 0x7F800000#32 : Ideal .f32) = (⊤ : EReal) := by
  show Ideal.ofBits .f32 0x7F800000#32 = ⊤
  simp [Ideal.ofBits, Ideal.ieee]

/-- A value whose absolute value is below plus infinity is a real number. -/
theorem isReal_of_abs_lt {x : EReal} (h : max x (-x) < ⊤) : IsReal x := by
  obtain ⟨h1, h2⟩ := max_lt_iff.1 h
  refine ⟨x.toReal, (EReal.coe_toReal h1.ne fun e => ?_).symm⟩
  rw [e] at h2
  exact absurd h2 (by simp)

/-- A one-bit word that is `1` exactly when a test holds. -/
theorem of_bit {p : Prop} [Decidable p] (h : BitVec.ofBool (decide p) = 1#1) : p := by
  by_contra n
  rw [decide_eq_false n] at h
  exact absurd h (by decide)

/-- The float test as it prints: where the comparison of `|x|` with plus infinity is all ones, every element of `x` is a real number. -/
theorem isReal_of_test {s : Shape} (x : Vec Ideal s .f32) (hb : (⟨0, ![]⟩ : Shape).BroadcastsInDim s ![])
    (h : cmpf (F := Ideal) (φ := .f32) .olt (Host.absf x) (broadcastInDim s ![] hb (constant (F := Ideal) ⟨0, ![]⟩ .f32 0x7F800000#32)) = fun _ => 1#1) (i : s.Idx) :
    IsReal (x i) := by
  have hi := congrFun h i
  have hi : BitVec.ofBool (decide ((max (x i : EReal) (-(x i : EReal))) < (FloatOps.ofBits .f32 0x7F800000#32 : Ideal .f32))) = 1#1 := hi
  rw [ofBits_inf] at hi
  exact isReal_of_abs_lt (of_bit hi)

/-- The index test as it prints: where it is all ones, every index, read signed, is at least zero and below ten thousand. -/
theorem range_of_test {s : Shape} (x : IVec s 32) (hb : (⟨0, ![]⟩ : Shape).BroadcastsInDim s ![])
    (h : andi (cmpi .sge x (broadcastInDim s ![] hb (constantI ⟨0, ![]⟩ 32 0#32))) (cmpi .slt x (broadcastInDim s ![] hb (constantI ⟨0, ![]⟩ 32 10000#32))) = fun _ => 1#1)
    (i : s.Idx) : 0 ≤ (x i).toInt ∧ (x i).toInt < 10000 := by
  have hi : BitVec.ofBool ((0#32).sle (x i)) &&& BitVec.ofBool ((x i).slt 10000#32) = 1#1 := congrFun h i
  have hl : (0#32).sle (x i) = true := by
    cases e : (0#32).sle (x i) with
    | true => rfl
    | false => rw [e] at hi; simp at hi
  have hr : (x i).slt 10000#32 = true := by
    cases e : (x i).slt 10000#32 with
    | true => rfl
    | false => rw [e] at hi; simp at hi
  exact ⟨BitVec.sle_iff_toInt_le.1 hl, BitVec.slt_iff_toInt_lt.1 hr⟩

/-- The arguments' facts: what the precondition says of one device's arguments. -/
structure Holds (x0 : Vec Ideal ⟨2, ![320000, 128]⟩ .f32) (x1 : Vec Ideal ⟨2, ![320000, 6]⟩ .f32) (x2 : IVec ⟨1, ![320000]⟩ 32)
    (x3 : Vec Ideal ⟨2, ![6, 128]⟩ .f32) (x4 : Vec Ideal ⟨2, ![128, 256]⟩ .f32) (x5 x7 x9 : Vec Ideal ⟨2, ![256, 256]⟩ .f32)
    (x11 : Vec Ideal ⟨2, ![256, 12]⟩ .f32) : Prop where
  range : ∀ i, 0 ≤ (x2 i).toInt ∧ (x2 i).toInt < 10000
  msg : ∀ i, IsReal (x0 i)
  rbf : ∀ i, IsReal (x1 i)
  Wrbf : ∀ i, IsReal (x3 i)
  Wup : ∀ i, IsReal (x4 i)
  W0 : ∀ i, IsReal (x5 i)
  W1 : ∀ i, IsReal (x7 i)
  W2 : ∀ i, IsReal (x9 i)
  Wf : ∀ i, IsReal (x11 i)

/-- The precondition gives these facts of every device's arguments. -/
theorem holds (m : (ℓ : Loc Cert.KernelIdeal.nD Cert.KernelIdeal.τ Cert.KernelIdeal.sig) → Buf (Elt Ideal) ℓ)
    (h : Cert.Pre_KernelIdeal_finite_and_in_range m) (c : Dev Cert.KernelIdeal.nD) :
    Holds (m (c.tc.loc Cert.KernelIdeal.main_arg0)) (m (c.tc.loc Cert.KernelIdeal.main_arg1)) (m (c.tc.loc Cert.KernelIdeal.main_arg2))
      (m (c.tc.loc Cert.KernelIdeal.main_arg3)) (m (c.tc.loc Cert.KernelIdeal.main_arg4)) (m (c.tc.loc Cert.KernelIdeal.main_arg5))
      (m (c.tc.loc Cert.KernelIdeal.main_arg7)) (m (c.tc.loc Cert.KernelIdeal.main_arg9)) (m (c.tc.loc Cert.KernelIdeal.main_arg11)) := by
  obtain ⟨h2, h0, h1, h3, h4, h5, h7, h9, h11⟩ := h c
  exact ⟨range_of_test _ _ h2, isReal_of_test _ _ h0, isReal_of_test _ _ h1, isReal_of_test _ _ h3, isReal_of_test _ _ h4,
    isReal_of_test _ _ h5, isReal_of_test _ _ h7, isReal_of_test _ _ h9, isReal_of_test _ _ h11⟩

end Cert.Precondition

end
-- ==== Proof.Tie.lean ====
/- The two results are equal under the precondition: the sum over the nodes of the layers is the layers of the sum over the
   edges, each bias counted once for every node. -/
module

public import proofs.«01_k».proof.Proof.KernelValue
public import proofs.«01_k».proof.Proof.RefValue
public import proofs.«01_k».proof.Proof.Precondition

@[expose] public section

noncomputable section

namespace Cert.Tie

open Cert.Sums Idealize.ShloMosaic Idealize.ShloMosaic.ValueIdx Finset

variable {x0 : Vec Ideal ⟨2, ![320000, 128]⟩ .f32} {x1 : Vec Ideal ⟨2, ![320000, 6]⟩ .f32} {x2 : IVec ⟨1, ![320000]⟩ 32}
  {x3 : Vec Ideal ⟨2, ![6, 128]⟩ .f32} {x4 : Vec Ideal ⟨2, ![128, 256]⟩ .f32} {x5 x7 x9 : Vec Ideal ⟨2, ![256, 256]⟩ .f32}
  {x11 : Vec Ideal ⟨2, ![256, 12]⟩ .f32}

/-- The nodes' aggregated rows add up to the weighted edge products, which no longer mention the destinations. -/
theorem rows (h : Precondition.Holds x0 x1 x2 x3 x4 x5 x7 x9 x11) (d : Fin 128) :
    Sums (fun n : Fin 10000 => Cert.ReferenceIdeal.Total.row x0 x1 x2 x3 n d)
      (∑ r : Fin 6, (x3 (ix2 r d) : EReal) * ∑ e : Fin 320000, (x1 (ix2 e r) : EReal) * x0 (ix2 e d)) := by
  let dst : Fin 320000 → Fin 10000 := fun e => ⟨(x2 (ix1 e)).toInt.toNat, by have := h.range (ix1 e); omega⟩
  have hd : ∀ (e : Fin 320000) (n : Fin 10000), (x2 (ix1 e)).toInt = (n.val : Int) ↔ dst e = n := fun e n => by
    have := h.range (ix1 e)
    rw [Fin.ext_iff]
    show _ ↔ (x2 (ix1 e)).toInt.toNat = n.val
    omega
  have key := sums_edges (N := Fin 10000) dst (msg := fun e => x0 (ix2 e d)) (rbf := fun e r => x1 (ix2 e r)) (W := fun r => x3 (ix2 r d))
    (fun e => h.msg _) (fun e r => h.rbf _) (fun r => h.Wrbf _)
  refine (congrArg (fun t : Fin 10000 → EReal => Sums t _) (funext fun n => ?_)).mp key
  unfold Cert.ReferenceIdeal.Total.row
  exact sum_congr (filter_congr fun e _ => (hd e n).symm) fun e _ => rfl

/-- Under the precondition the reference's result at a column is the kernel's formula there, whatever the biases. -/
theorem column (h : Precondition.Holds x0 x1 x2 x3 x4 x5 x7 x9 x11) (x6 x8 x10 : Vec Ideal ⟨1, ![256]⟩ .f32) (j : Fin 12) :
    (Cert.ReferenceIdeal.Read.val_main_v20 (F := Ideal) x0 x1 x2 x3 x4 x5 x6 x7 x8 x9 x10 x11 (ix2 0 j) : EReal)
      = Cert.KernelIdeal.Total.formula x0 x1 x3 x4 x5 x6 x7 x8 x9 x10 x11 j := by
  refine (Cert.ReferenceIdeal.Total.result_apply x0 x1 x2 x3 x4 x5 x6 x7 x8 x9 x10 x11 j).trans ?_
  have key := sum_layers (N := Fin 10000) (t := fun n d => Cert.ReferenceIdeal.Total.row x0 x1 x2 x3 n d)
    (Wup := fun k j => x4 (ix2 k j)) (W0 := fun k j => x5 (ix2 k j)) (W1 := fun k j => x7 (ix2 k j)) (W2 := fun k j => x9 (ix2 k j))
    (Wf := fun k j => x11 (ix2 k j)) (fun i => x6 (ix1 i)) (fun i => x8 (ix1 i)) (fun i => x10 (ix1 i)) (rows h)
    (fun k j => h.Wup _) (fun k j => h.W0 _) (fun k j => h.W1 _) (fun k j => h.W2 _) (fun k j => h.Wf _) j
  have card : ((Fintype.card (Fin 10000) : ℝ)) = 10000 := by rw [Fintype.card_fin]; norm_num
  rw [card] at key
  exact key

/-- Under the precondition the reference's result is what the kernel leaves in its result array. -/
theorem results (m : (ℓ : Loc Cert.KernelIdeal.nD Cert.KernelIdeal.τ Cert.KernelIdeal.sig) → Buf (Elt Ideal) ℓ)
    (h : Cert.Pre_KernelIdeal_finite_and_in_range m) (c : Dev Cert.KernelIdeal.nD) :
    Cert.ReferenceIdeal.Read.val_main_v20 (F := Ideal)
        (m (c.tc.loc Cert.KernelIdeal.main_arg0)) (m (c.tc.loc Cert.KernelIdeal.main_arg1)) (m (c.tc.loc Cert.KernelIdeal.main_arg2))
        (m (c.tc.loc Cert.KernelIdeal.main_arg3)) (m (c.tc.loc Cert.KernelIdeal.main_arg4)) (m (c.tc.loc Cert.KernelIdeal.main_arg5))
        (m (c.tc.loc Cert.KernelIdeal.main_arg6)) (m (c.tc.loc Cert.KernelIdeal.main_arg7)) (m (c.tc.loc Cert.KernelIdeal.main_arg8))
        (m (c.tc.loc Cert.KernelIdeal.main_arg9)) (m (c.tc.loc Cert.KernelIdeal.main_arg10)) (m (c.tc.loc Cert.KernelIdeal.main_arg11))
      = Cert.KernelIdeal.Value.G11 (F := Ideal) m c := by
  funext i
  have e : i = ix2 (0 : Fin 1) (i 1) := (eq_ix2 (n0 := 1) (n1 := 12) i).trans (congrArg (fun a => ix2 a (i 1)) (Subsingleton.elim (α := Fin 1) _ _))
  rw [e]
  exact (column (Precondition.holds m h c) _ _ _ (i 1)).trans (Cert.KernelIdeal.Total.result_apply m c (i 1)).symm

end Cert.Tie

end
-- ==== Proof.lean ====
/- The certificate's claim. Both programs of the kernel run to the end and free what they take, by their frames; the reference
   runs to the end by its run; and under the precondition the kernel's result over the extended reals is the reference's, by the
   equation of Proof/Tie.lean. -/
module

public import proofs.«01_k».proof.Defs
public import proofs.«01_k».proof.Proof.Gen.Kernel.Frame
public import proofs.«01_k».proof.Proof.Gen.KernelIdeal.Value
public import proofs.«01_k».proof.Proof.Gen.Pre_finite_and_in_range
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent
public import proofs.«01_k».proof.Proof.Tie

@[expose] public section

noncomputable section

namespace Cert.Proof

open Idealize.ShloMosaic Idealize.SL.Sem

/-- The reference ends with every counter at zero and its arguments unchanged, from any memory. -/
theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same for the reference beside the value claim's precondition. -/
theorem reference_quiescent_in_range : quiescent_ReferenceIdeal_pre_finite_and_in_range := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments and meet the precondition, kernel and reference leave equal results. -/
theorem value : algebraic_KernelIdeal_ReferenceIdeal_pre_finite_and_in_range := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v20_eq _ _ _ _ _ _ _ _ _ _ _ _).trans (Cert.Tie.results m hpre c)

/-- All claims together. -/
theorem claim : Cert.Claim := ⟨Cert.Kernel.Gen.facts, Cert.KernelIdeal.Gen.facts, Cert.ReferenceIdeal.Gen.facts, Cert.Pre_finite_and_in_range.Gen.facts,
  fun m ρ _ => Cert.Kernel.Gen.frame m ρ, fun m ρ _ => Cert.KernelIdeal.Gen.frame m ρ, fun m ρ _ => Cert.KernelIdeal.Gen.frame m ρ,
  reference_quiescent, reference_quiescent_in_range, (trivial : preserves_Kernel_KernelIdeal), value⟩

end Cert.Proof

end
